-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x1024 : Shape := ⟨3, ![64, 1, 1024]⟩
abbrev S8x1024 : Shape := ⟨2, ![8, 1024]⟩
abbrev S8x2048x1024 : Shape := ⟨3, ![8, 2048, 1024]⟩
abbrev S8x1024x2048 : Shape := ⟨3, ![8, 1024, 2048]⟩
abbrev S64x1024 : Shape := ⟨2, ![64, 1024]⟩
abbrev S1x1 : Shape := ⟨2, ![1, 1]⟩
abbrev S_ : Shape := ⟨0, ![]⟩
abbrev S1x2048x1024 : Shape := ⟨3, ![1, 2048, 1024]⟩
abbrev S1x1024x2048 : Shape := ⟨3, ![1, 1024, 2048]⟩
abbrev S64x8 : Shape := ⟨2, ![64, 8]⟩
abbrev S64 : Shape := ⟨1, ![64]⟩
abbrev S64x1 : Shape := ⟨2, ![64, 1]⟩
abbrev S8 : Shape := ⟨1, ![8]⟩
abbrev S1x8 : Shape := ⟨2, ![1, 8]⟩
abbrev S1x1x8 : Shape := ⟨3, ![1, 1, 8]⟩
abbrev S1 : Shape := ⟨1, ![1]⟩
abbrev S1x1x1 : Shape := ⟨3, ![1, 1, 1]⟩
abbrev S2048x1024 : Shape := ⟨2, ![2048, 1024]⟩
abbrev S64x2048 : Shape := ⟨2, ![64, 2048]⟩
abbrev S1024x2048 : Shape := ⟨2, ![1024, 2048]⟩

abbrev nBuf : Space → Nat
  | .hbm => 10
  | .vmem => 11
  | .smem => 0
  | _ => 0

abbrev bufTy : (tb : Table) → Fin (tcTables nBuf tb) → BufTy
  | .hbm, ⟨0, _⟩ => ⟨S64x1x1024, .f32⟩
  | .hbm, ⟨1, _⟩ => ⟨S8x1024, .f32⟩
  | .hbm, ⟨2, _⟩ => ⟨S8x2048x1024, .f32⟩
  | .hbm, ⟨3, _⟩ => ⟨S8x2048x1024, .f32⟩
  | .hbm, ⟨4, _⟩ => ⟨S8x1024x2048, .f32⟩
  | .hbm, ⟨5, _⟩ => ⟨S64x1024, .f32⟩
  | .hbm, ⟨6, _⟩ => ⟨S64x1024, .f32⟩
  | .hbm, ⟨7, _⟩ => ⟨S1x1, .f32⟩
  | .hbm, ⟨8, _⟩ => ⟨S64x1x1024, .f32⟩
  | .hbm, ⟨9, _⟩ => ⟨S_, .f32⟩
  | .local _ .vmem, ⟨0, _⟩ => ⟨S64x1024, .f32⟩
  | .local _ .vmem, ⟨1, _⟩ => ⟨S8x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x1024x2048, .f32⟩
  | .local _ .vmem, ⟨7, _⟩ => ⟨S1x1024x2048, .f32⟩
  | .local _ .vmem, ⟨8, _⟩ => ⟨S64x1024, .f32⟩
  | .local _ .vmem, ⟨9, _⟩ => ⟨S1x1, .f32⟩
  | .local _ .vmem, ⟨10, _⟩ => ⟨S64x8, .f32⟩
  | _, _ => ⟨S64x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1_0 : Ref sig .tc := ⟨.hbm, 6, rfl⟩
abbrev main_call0_v1_1 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let arg1 : BitVec 32 := BitVec.ofNat 32 (i 1).val
  let c0_i32_1 : BitVec 32 := 0#32
  let v3 : BitVec 1 := Scalar.cmpi .eq arg1 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S64x1x1024 : Shape := ⟨3, ![64, 1, 1024]⟩
abbrev S8x1024 : Shape := ⟨2, ![8, 1024]⟩
abbrev S8x2048x1024 : Shape := ⟨3, ![8, 2048, 1024]⟩
abbrev S8x1024x2048 : Shape := ⟨3, ![8, 1024, 2048]⟩
abbrev S64x1024 : Shape := ⟨2, ![64, 1024]⟩
abbrev S1024x8 : Shape := ⟨2, ![1024, 8]⟩
abbrev S64x8 : Shape := ⟨2, ![64, 8]⟩
abbrev S_ : Shape := ⟨0, ![]⟩
abbrev S64 : Shape := ⟨1, ![64]⟩
abbrev S64x1 : Shape := ⟨2, ![64, 1]⟩
abbrev S64x2 : Shape := ⟨2, ![64, 2]⟩
abbrev S64x2x1 : Shape := ⟨3, ![64, 2, 1]⟩
abbrev S1x1x8 : Shape := ⟨3, ![1, 1, 8]⟩
abbrev S64x2x8 : Shape := ⟨3, ![64, 2, 8]⟩
abbrev S64x8x2048 : Shape := ⟨3, ![64, 8, 2048]⟩
abbrev S8x1024x64 : Shape := ⟨3, ![8, 1024, 64]⟩
abbrev S64x8x1024 : Shape := ⟨3, ![64, 8, 1024]⟩
abbrev S8 : Shape := ⟨1, ![8]⟩

abbrev nBuf : Space → Nat
  | .hbm => 73
  | .vmem => 0
  | .smem => 0
  | _ => 0

abbrev bufTy : (tb : Table) → Fin (tcTables nBuf tb) → BufTy
  | .hbm, ⟨0, _⟩ => ⟨S64x1x1024, .f32⟩
  | .hbm, ⟨1, _⟩ => ⟨S8x1024, .f32⟩
  | .hbm, ⟨2, _⟩ => ⟨S8x2048x1024, .f32⟩
  | .hbm, ⟨3, _⟩ => ⟨S8x2048x1024, .f32⟩
  | .hbm, ⟨4, _⟩ => ⟨S8x1024x2048, .f32⟩
  | .hbm, ⟨5, _⟩ => ⟨S64x1024, .f32⟩
  | .hbm, ⟨6, _⟩ => ⟨S1024x8, .f32⟩
  | .hbm, ⟨7, _⟩ => ⟨S64x8, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64x1, .f32⟩
  | .hbm, ⟨14, _⟩ => ⟨S64x8, .f32⟩
  | .hbm, ⟨15, _⟩ => ⟨S64x8, .f32⟩
  | .hbm, ⟨16, _⟩ => ⟨S64x8, .f32⟩
  | .hbm, ⟨17, _⟩ => ⟨S_, .f32⟩
  | .hbm, ⟨18, _⟩ => ⟨S64, .f32⟩
  | .hbm, ⟨19, _⟩ => ⟨S64x1, .f32⟩
  | .hbm, ⟨20, _⟩ => ⟨S64x8, .f32⟩
  | .hbm, ⟨21, _⟩ => ⟨S64x8, .f32⟩
  | .hbm, ⟨22, _⟩ => ⟨S64x2, .f32⟩
  | .hbm, ⟨23, _⟩ => ⟨S64x2, .i32⟩
  | .hbm, ⟨24, _⟩ => ⟨S_, .f32⟩
  | .hbm, ⟨25, _⟩ => ⟨S64, .f32⟩
  | .hbm, ⟨26, _⟩ => ⟨S64x1, .f32⟩
  | .hbm, ⟨27, _⟩ => ⟨S64x2, .f32⟩
  | .hbm, ⟨28, _⟩ => ⟨S64x2, .f32⟩
  | .hbm, ⟨29, _⟩ => ⟨S64x2x1, .i32⟩
  | .hbm, ⟨30, _⟩ => ⟨S1x1x8, .i32⟩
  | .hbm, ⟨31, _⟩ => ⟨S64x2x8, .i32⟩
  | .hbm, ⟨32, _⟩ => ⟨S64x2x8, .i32⟩
  | .hbm, ⟨33, _⟩ => ⟨S64x2x8, .i1⟩
  | .hbm, ⟨34, _⟩ => ⟨S64x2x8, .f32⟩
  | .hbm, ⟨35, _⟩ => ⟨S64x2x1, .f32⟩
  | .hbm, ⟨36, _⟩ => ⟨S64x2x8, .f32⟩
  | .hbm, ⟨37, _⟩ => ⟨S64x2x8, .f32⟩
  | .hbm, ⟨38, _⟩ => ⟨S_, .f32⟩
  | .hbm, ⟨39, _⟩ => ⟨S64x8, .f32⟩
  | .hbm, ⟨40, _⟩ => ⟨S64x8x2048, .f32⟩
  | .hbm, ⟨41, _⟩ => ⟨S64x8x2048, .f32⟩
  | .hbm, ⟨42, _⟩ => ⟨S64x8x2048, .f32⟩
  | .hbm, ⟨43, _⟩ => ⟨S64x8x2048, .f32⟩
  | .hbm, ⟨44, _⟩ => ⟨S_, .f32⟩
  | .hbm, ⟨45, _⟩ => ⟨S64x8x2048, .f32⟩
  | .hbm, ⟨46, _⟩ => ⟨S64x8x2048, .f32⟩
  | .hbm, ⟨47, _⟩ => ⟨S_, .f32⟩
  | .hbm, ⟨48, _⟩ => ⟨S64x8x2048, .f32⟩
  | .hbm, ⟨49, _⟩ => ⟨S64x8x2048, .f32⟩
  | .hbm, ⟨50, _⟩ => ⟨S64x8x2048, .f32⟩
  | .hbm, ⟨51, _⟩ => ⟨S64x8x2048, .f32⟩
  | .hbm, ⟨52, _⟩ => ⟨S8x1024x64, .f32⟩
  | .hbm, ⟨53, _⟩ => ⟨S64x8x1024, .f32⟩
  | .hbm, ⟨54, _⟩ => ⟨S64x1024, .f32⟩
  | .hbm, ⟨55, _⟩ => ⟨S_, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S64x8, .f32⟩
  | .hbm, ⟨62, _⟩ => ⟨S_, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S64x1x1024, .f32⟩
  | _, _ => ⟨S64x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_cst_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_9 : Ref sig .tc := ⟨.hbm, 68, rfl⟩
abbrev main_v38 : Ref sig .tc := ⟨.hbm, 69, rfl⟩
abbrev main_cst_10 : Ref sig .tc := ⟨.hbm, 70, rfl⟩
abbrev main_v39 : Ref sig .tc := ⟨.hbm, 71, rfl⟩
abbrev main_v40 : Ref sig .tc := ⟨.hbm, 72, rfl⟩

abbrev nD : Nat := 1
abbrev τ : Topo := Topo.v7x

variable {F : FTy → Type} [FloatOps F]
-- ==== Proof.Body.lean ====
/- The kernel body of the idealized program, run once with every stored value named: at the first grid point it
  computes the routing weights and the load-balancing loss and starts the accumulator; at the later ones it adds one
  expert's contribution. -/
module

public import proofs.«01_k».proof.Proof.Gen.KernelIdeal.Frame
public import proofs.«01_k».proof.Proof.Gen.KernelIdeal.Skeleton
public import Idealize.ShloMosaic.Lib.Claim
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole rank-two rectangle. -/
theorem hz2 : (![0, 0] : Fin 2 → ℕ) = fun _ => 0 := by funext a; fin_cases a <;> rfl
/-- The offsets of a whole rank-three rectangle. -/
theorem hz3 : (![0, 0, 0] : Fin 3 → ℕ) = fun _ => 0 := by funext a; fin_cases a <;> rfl

/-- A load through a whole rectangle of a whole memref held at contents that read `X` reads `X`. -/
theorem read_whole {s : Shape} {e : EltTy} {m : Memref sig .tc .vmem s e} (h : m.IsWhole) (X : s.Idx → Elt F e)
    {off : Fin s.rank → ℕ} (h0 : off = fun _ => 0) (inb : ∀ a, off a + s.size a ≤ s.size a) :
    View.readAt (Elt F) m.view (Rect.unit off s.size inb).toLoadRect (h.unread X) = X :=
  (funext fun x => h.readAt_unread X _ x).trans (View.ld_unit_zero h0 inb X)

/-- After a store through a whole rectangle the buffer holds the payload. -/
theorem stored_whole {s : Shape} {e : EltTy} (v : View sig .tc .vmem s e) (f : v.ty.Contents (Elt F))
    {off : Fin s.rank → ℕ} (h0 : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon v f _ (fun y => ⟨_, List.mem_cons_self .., View.mem_set_unit_zero h0 inb y⟩)]
  exact View.canon_cons_unit_zero h0 inb w L

/-- The routing weights the first point leaves in the scratch, from the tokens and the router's weights. -/
def comb (x0 : Vec F S64x1024 .f32) (x1 : Vec F S8x1024 .f32) : Vec F S64x8 .f32 := k0_pay8 (k0_pay9 x0) x1
/-- The load-balancing loss the first point leaves in the second output. -/
def aux (x0 : Vec F S64x1024 .f32) (x1 : Vec F S8x1024 .f32) : Vec F S1x1 .f32 :=
  k0_pay10 (k0_pay2 (k0_pay9 x0) x1) (k0_pay7 (k0_pay9 x0) x1)
/-- The accumulator after a point's contribution is added to what it held. -/
def step (i : grid0.Coords) (x0 : Vec F S64x1024 .f32) (x2 x3 : Vec F S1x2048x1024 .f32) (cb : Vec F S64x8 .f32)
    (x4 : Vec F S1x1024x2048 .f32) (acc : Vec F S64x1024 .f32) : Vec F S64x1024 .f32 :=
  k0_pay1 (k0_pay12 i x0 x2 x3 cb x4) acc

set_option maxHeartbeats 1000000 in
/-- The body at the first point. -/
theorem runFirst (c : Dev nD) (i : grid0.Coords) (arg2 : Memref sig .tc .vmem S64x1024 .f32) (harg2 : arg2.IsWhole) (arg3 : Memref sig .tc .vmem S8x1024 .f32) (harg3 : arg3.IsWhole) (arg4 : Memref sig .tc .vmem S1x2048x1024 .f32) (harg4 : arg4.IsWhole) (arg5 : Memref sig .tc .vmem S1x2048x1024 .f32) (harg5 : arg5.IsWhole) (arg6 : Memref sig .tc .vmem S1x1024x2048 .f32) (harg6 : arg6.IsWhole) (arg7 : Memref sig .tc .vmem S64x1024 .f32) (harg7 : arg7.IsWhole) (arg8 : Memref sig .tc .vmem S1x1 .f32) (harg8 : arg8.IsWhole) (arg9 : Memref sig .tc .vmem S64x8 .f32) (harg9 : arg9.IsWhole) (hc0 : k0_cond1 i = 1#1)
    (x0 : Vec F S64x1024 .f32) (x1 : Vec F S8x1024 .f32) (x2 : Vec F S1x2048x1024 .f32) (x3 : Vec F S1x2048x1024 .f32) (x4 : Vec F S1x1024x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (step i x0 x2 x3 (comb x0 x1) x4 k0_pay11) ∗ owns (c : Thread nD τ) arg8 fullShare (aux x0 x1) ∗ owns (c : Thread nD τ) arg9 fullShare (comb x0 x1)) -∗ K ⟨⟩))
      ⊢ wp frame (wpE (defs₀ (F := F)) Variants.none c none) E (cc0__moe_kernel i arg2 harg2 arg3 harg3 arg4 harg4 arg5 harg5 arg6 harg6 arg7 harg7 arg8 harg8 arg9 harg9) K := by
  simp only [cc0__moe_kernel_eq_skeleton]; unfold cc0__moe_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_words
    refine (stored_whole _ _ hz2 _ _ _).trans ?_
    rw [read_whole harg2 x0 hz2, read_whole harg3 x1 hz2, read_whole harg4 x2 hz3, read_whole harg5 x3 hz3, read_whole harg6 x4 hz3]
    rw [View.readCov_unit_zero arg9.view hz2]
    exact congrArg _ (View.readCov_unit_zero arg7.view hz2 _ _)
  isplitl [H6]
  · iexists _; isplitr; swap; · iexact H6
    ipureintro
    sl_unfold_words
    refine (stored_whole _ _ hz2 _ _ _).trans ?_
    rw [read_whole harg2 x0 hz2, read_whole harg3 x1 hz2]; rfl
  iexists _; isplitr; swap; · iexact HS0
  ipureintro
  sl_unfold_words
  refine (stored_whole _ _ hz2 _ _ _).trans ?_
  rw [read_whole harg2 x0 hz2, read_whole harg3 x1 hz2]; rfl

set_option maxHeartbeats 1000000 in
/-- The body at a later point: the accumulator held `a`, the scratch the weights `cb`, the loss's buffer `l`. -/
theorem runLater (c : Dev nD) (i : grid0.Coords) (arg2 : Memref sig .tc .vmem S64x1024 .f32) (harg2 : arg2.IsWhole) (arg3 : Memref sig .tc .vmem S8x1024 .f32) (harg3 : arg3.IsWhole) (arg4 : Memref sig .tc .vmem S1x2048x1024 .f32) (harg4 : arg4.IsWhole) (arg5 : Memref sig .tc .vmem S1x2048x1024 .f32) (harg5 : arg5.IsWhole) (arg6 : Memref sig .tc .vmem S1x1024x2048 .f32) (harg6 : arg6.IsWhole) (arg7 : Memref sig .tc .vmem S64x1024 .f32) (harg7 : arg7.IsWhole) (arg8 : Memref sig .tc .vmem S1x1 .f32) (harg8 : arg8.IsWhole) (arg9 : Memref sig .tc .vmem S64x8 .f32) (harg9 : arg9.IsWhole) (hc0 : ¬k0_cond1 i = 1#1)
    (x0 : Vec F S64x1024 .f32) (x1 : Vec F S8x1024 .f32) (x2 : Vec F S1x2048x1024 .f32) (x3 : Vec F S1x2048x1024 .f32) (x4 : Vec F S1x1024x2048 .f32) (a : Vec F S64x1024 .f32) (l : Vec F S1x1 .f32) (cb : Vec F S64x8 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare a ∗ owns (c : Thread nD τ) arg8 fullShare l ∗ owns (c : Thread nD τ) arg9 fullShare cb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (step i x0 x2 x3 cb x4 a) ∗ owns (c : Thread nD τ) arg8 fullShare l ∗ owns (c : Thread nD τ) arg9 fullShare cb) -∗ K ⟨⟩))
      ⊢ wp frame (wpE (defs₀ (F := F)) Variants.none c none) E (cc0__moe_kernel i arg2 harg2 arg3 harg3 arg4 harg4 arg5 harg5 arg6 harg6 arg7 harg7 arg8 harg8 arg9 harg9) K := by
  simp only [cc0__moe_kernel_eq_skeleton]; unfold cc0__moe_kernel_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_words
    refine (stored_whole _ _ hz2 _ _ _).trans ?_
    rw [read_whole harg2 x0 hz2, read_whole harg4 x2 hz3, read_whole harg5 x3 hz3, read_whole harg6 x4 hz3, read_whole harg9 cb hz2]
    exact congrArg _ (read_whole harg7 a hz2 _)
  isplitl [H6]
  · iexists _; isplitr; · ipureintro; exact harg8.read_unread _
    iexact H6
  iexists _; isplitr; · ipureintro; exact harg9.read_unread _
  iexact HS0

end Cert.KernelIdeal.Hand

end
-- ==== Proof.Launch.lean ====
/- The launch of the idealized kernel with its values: what every buffer of the pipeline holds at each grid point, the
  body's obligation there, the run of the whole program, and its two results. -/
module

public import proofs.«01_k».proof.Proof.Body
public import Idealize.ShloMosaic.Lib.Pipeline.ValueKit
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values, point by point -/

/-- The first grid point. -/
def firstPt : Fin cfg0.N := ⟨0, by rw [show cfg0.N = 8 from N_0]; omega⟩

/-- The routing weights the whole region works with. -/
def combV (c : Dev nD) : Vec F S64x8 .f32 := comb (iblk m c 0 firstPt) (iblk m c 1 firstPt)
/-- The load-balancing loss the region writes back. -/
def auxV (c : Dev nD) : Vec F S1x1 .f32 := aux (iblk m c 0 firstPt) (iblk m c 1 firstPt)

/-- One point's contribution added to the accumulator `a`. -/
def stepAt (c : Dev nD) (t : Fin cfg0.N) (a : Vec F S64x1024 .f32) : Vec F S64x1024 .f32 :=
  step (grid0.coords t) (iblk m c 0 t) (iblk m c 2 t) (iblk m c 3 t) (combV m c) (iblk m c 4 t) a

/-- The accumulator after point `n`. -/
def accAt (c : Dev nD) : (n : ℕ) → n < cfg0.N → Vec F S64x1024 .f32
  | 0, h => stepAt m c ⟨0, h⟩ k0_pay11
  | n + 1, h => stepAt m c ⟨n + 1, h⟩ (accAt c n (Nat.lt_of_succ_lt h))

/-- After a later point the accumulator is that point's contribution added to the one before. -/
theorem accAt_pos (c : Dev nD) (t : Fin cfg0.N) (ht : t.val ≠ 0) :
    accAt m c t.val t.isLt = stepAt m c t (accAt m c (t.val - 1) (Nat.lt_of_le_of_lt (Nat.sub_le _ _) t.isLt)) := by
  obtain ⟨n, hn⟩ := t
  cases n with
  | zero => exact absurd rfl ht
  | succ n => rfl

/-! ## Staging memrefs, the branch and the idle points -/

/-- The branch is taken at the first point only. -/
theorem cond_iff (t : Fin cfg0.N) : k0_cond1 (grid0.coords t) = 1#1 ↔ t.val = 0 := by
  have h : ∀ t : Fin grid0.N, k0_cond1 (grid0.coords t) = 1#1 ↔ t.val = 0 := by
    intro t
    have ht : t.val < 8 := Nat.lt_of_lt_of_eq t.isLt N_0
    have e0 : (grid0.coords t 0).val = t.val / 1 % 8 := Pipeline.Grid.coords_val t 0 (by decide) rfl
    have e1 : (grid0.coords t 1).val = t.val / 1 % 1 := Pipeline.Grid.coords_val t 1 (by decide) rfl
    simp only [k0_cond1, e0, e1]
    word_cmp
  exact h t

/-- The loss's window is stored at the first point only. -/
theorem idle6 (t : Fin cfg0.N) : cfg0.idle 6 (grid0.coords t) = decide (t.val ≠ 0) := by
  show (!(k0_cond1 (grid0.coords t) == 1#1)) = _
  by_cases h : t.val = 0
  · rw [(cond_iff t).mpr h]; simp [h]
  · have := mt (cond_iff t).mp h
    simp [h, this]

/-- After the first point the loss's buffer holds what the body stored. -/
theorem fresh6 (t : Fin cfg0.N) (ht : t.val ≠ 0) : cfg0.fresh 6 t.val = false := by
  have h := cfg0.fresh_tab 6 (fun n => decide (n = 0 ∨ n = 8)) rfl (fun t => by
    have ht : t.val < 8 := Nat.lt_of_lt_of_eq t.isLt N_0
    rw [idle6 t]
    cases hf : (cfg0.win 6).flush t
    · have := mt (flush0_6 t).mpr (by rw [hf]; exact Bool.false_ne_true)
      rw [Bool.false_or, ← Bool.decide_and, decide_eq_decide]; omega
    · have := (flush0_6 t).mp hf
      rw [Bool.true_or, decide_eq_true_eq]; omega) t.val (Nat.le_of_lt t.isLt)
  have h8 : t.val < 8 := Nat.lt_of_lt_of_eq t.isLt N_0
  rw [h, decide_eq_false_iff_not]; omega

/-- The staging memref of each window at point `t`, as the pipeline passes it. -/
abbrev ms0 (t : Fin cfg0.N) : Memref sig .tc .vmem S64x1024 .f32 := win0_0.stage (cfg0.slots t 0)
/-- The staging buffer of window 1 at a point. -/
abbrev ms1 (t : Fin cfg0.N) : Memref sig .tc .vmem S8x1024 .f32 := win0_1.stage (cfg0.slots t 1)
/-- The staging buffer of window 2 at a point. -/
abbrev ms2 (t : Fin cfg0.N) : Memref sig .tc .vmem S1x2048x1024 .f32 := win0_2.stage (cfg0.slots t 2)
/-- The staging buffer of window 3 at a point. -/
abbrev ms3 (t : Fin cfg0.N) : Memref sig .tc .vmem S1x2048x1024 .f32 := win0_3.stage (cfg0.slots t 3)
/-- The staging buffer of window 4 at a point. -/
abbrev ms4 (t : Fin cfg0.N) : Memref sig .tc .vmem S1x1024x2048 .f32 := win0_4.stage (cfg0.slots t 4)
/-- The staging buffer of window 5 at a point. -/
abbrev ms5 (t : Fin cfg0.N) : Memref sig .tc .vmem S64x1024 .f32 := win0_5.stage (cfg0.slots t 5)
/-- The staging buffer of window 6 at a point. -/
abbrev ms6 (t : Fin cfg0.N) : Memref sig .tc .vmem S1x1 .f32 := win0_6.stage (cfg0.slots t 6)
/-- The scratch that carries the routing weights. -/
abbrev scM : Memref sig .tc .vmem S64x8 .f32 := Memref.whole cc0_scratch0

/-! ## The proof data -/

/-- The region's invariant before point `n`: at the start the scratch holds anything, afterwards the routing weights. -/
def inv (c : Dev nD) (n : ℕ) : sProp 𝕄 :=
  if n = 0 then Pipeline.ΦA spec0 c
  else iprop(owns (c : Thread nD τ) scM fullShare (combV m c) ∗ (∃ r, prngReg c r))

/-- The proof data: inputs stay at their blocks, the first output holds the accumulator, the second the loss. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
    | ⟨6, _⟩ => auxV m c
  Φ j := inv m c j.val
  q _ := fullShare
  owed _ := 0

/-- Every window's array is what the region finds there. -/
theorem A_eq (c : Dev nD) (w : Fin cfg0.W) : (dats m 0 c).A w = V m c (Pipeline.arrRef spec0 w) := by
  dsimp only [dats]
/-- The body leaves the tokens' block in place. -/
theorem after_0 (c : Dev nD) (t : Fin cfg0.N) : (dats m 0 c).after 0 t = iblk m c 0 t := by dsimp only [dats]
/-- The body leaves the router weights' block in place. -/
theorem after_1 (c : Dev nD) (t : Fin cfg0.N) : (dats m 0 c).after 1 t = iblk m c 1 t := by dsimp only [dats]
/-- The body leaves the gate weights' block in place. -/
theorem after_2 (c : Dev nD) (t : Fin cfg0.N) : (dats m 0 c).after 2 t = iblk m c 2 t := by dsimp only [dats]
/-- The body leaves the up weights' block in place. -/
theorem after_3 (c : Dev nD) (t : Fin cfg0.N) : (dats m 0 c).after 3 t = iblk m c 3 t := by dsimp only [dats]
/-- The body leaves the down weights' block in place. -/
theorem after_4 (c : Dev nD) (t : Fin cfg0.N) : (dats m 0 c).after 4 t = iblk m c 4 t := by dsimp only [dats]
/-- The body leaves the accumulator in the first output's block. -/
theorem after_5 (c : Dev nD) (t : Fin cfg0.N) : (dats m 0 c).after 5 t = accAt m c t.val t.isLt := by dsimp only [dats]
/-- The body leaves the loss in the second output's block. -/
theorem after_6 (c : Dev nD) (t : Fin cfg0.N) : (dats m 0 c).after 6 t = auxV m c := by dsimp only [dats]

/-- The body finds the tokens' block staged. -/
theorem before_0 (c : Dev nD) (t : Fin cfg0.N) (d) : (dats m 0 c).before 0 t d = iblk m c 0 t :=
  before0_0_of m (dats m 0 c) (A_eq m c 0) (after_0 m c) t d
/-- The body finds the router weights' block staged. -/
theorem before_1 (c : Dev nD) (t : Fin cfg0.N) (d) : (dats m 0 c).before 1 t d = iblk m c 1 t :=
  before0_1_of m (dats m 0 c) (A_eq m c 1) (after_1 m c) t d
/-- The body finds the gate weights' block staged. -/
theorem before_2 (c : Dev nD) (t : Fin cfg0.N) (d) : (dats m 0 c).before 2 t d = iblk m c 2 t :=
  before0_2_of m (dats m 0 c) (A_eq m c 2) (after_2 m c) t d
/-- The body finds the up weights' block staged. -/
theorem before_3 (c : Dev nD) (t : Fin cfg0.N) (d) : (dats m 0 c).before 3 t d = iblk m c 3 t :=
  before0_3_of m (dats m 0 c) (A_eq m c 3) (after_3 m c) t d
/-- The body finds the down weights' block staged. -/
theorem before_4 (c : Dev nD) (t : Fin cfg0.N) (d) : (dats m 0 c).before 4 t d = iblk m c 4 t :=
  before0_4_of m (dats m 0 c) (A_eq m c 4) (after_4 m c) t d

/-- After the first point the first output's buffer holds the accumulator of the point before. -/
theorem before_5 (c : Dev nD) (t : Fin cfg0.N) (ht : t.val ≠ 0) (d) :
    (dats m 0 c).before 5 t d = accAt m c (t.val - 1) (Nat.lt_of_le_of_lt (Nat.sub_le _ _) t.isLt) := by
  have h8 : t.val < 8 := Nat.lt_of_lt_of_eq t.isLt N_0
  rw [(dats m 0 c).before_out_kept 5 rfl t ht (by
    rw [Bool.eq_false_iff]; intro hf; have := (flush0_5 _).mp hf; simp only at this; omega) (fun _ => rfl) (fun _ _ => rfl) d,
    after_5]

/-- After the first point the second output's buffer holds the loss. -/
theorem before_6 (c : Dev nD) (t : Fin cfg0.N) (ht : t.val ≠ 0) (d) : (dats m 0 c).before 6 t d = auxV m c := by
  rw [(dats m 0 c).before_out_traj 6 rfl (fun _ _ => rfl) (fun t _ _ _ => by rw [after_6, after_6]) t.val t rfl d,
    fresh6 t ht, if_neg Bool.false_ne_true, after_6]

/-- Handing back the loss's buffer at the loss meets the obligation at every point but the first, where it is idle. -/
theorem leaves_6 (c : Dev nD) (t : Fin cfg0.N) :
    (owns (c : Thread nD τ) (ms6 t) fullShare (auxV m c) : sProp 𝕄) ⊢ (dats m 0 c).leavesExact 6 t := by
  unfold Dat.leavesExact
  by_cases ht : t.val = 0
  · rw [idle6 t, decide_eq_false (by omega), after_6]
  · rw [idle6 t, decide_eq_true ht]
    cases hf : (cfg0.win 6).flush t
    · dsimp only
      iintro H
      iexists (auxV m c)
      rw [before_6 m c t ht]
      iexact H
    · rw [after_6]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A window never idle leaves what the proof data say. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The scratch and the generator register, as the region's invariant holds them at its start. -/
theorem start_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

set_option maxHeartbeats 1600000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    show (dats m 0 c).Φ t.castSucc = inv m c t.val from rfl, show (dats m 0 c).Φ t.succ = inv m c (t.val + 1) from rfl,
    leaves_live m c 0 t rfl, leaves_live m c 1 t rfl, leaves_live m c 2 t rfl, leaves_live m c 3 t rfl, leaves_live m c 4 t rfl,
    leaves_live m c 5 t rfl, after_0, after_1, after_2, after_3, after_4, after_5]
  unfold inv
  rw [if_neg (Nat.succ_ne_zero t.val)]
  by_cases h0 : t.val = 0
  · obtain rfl : t = firstPt := Fin.ext h0
    rw [if_pos h0, start_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (runFirst c (grid0.coords firstPt) _ _ _ _ _ _ _ _ _ _ _ _ _ _ _ _ ((cond_iff firstPt).mpr h0) (iblk m c 0 firstPt) (iblk m c 1 firstPt) (iblk m c 2 firstPt) (iblk m c 3 firstPt) (iblk m c 4 firstPt) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6 m c firstPt)
    iexact H6
  · rw [if_neg h0, accAt_pos m c t h0]
    simp only [before_5 m c t h0, before_6 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (runLater c (grid0.coords t) _ _ _ _ _ _ _ _ _ _ _ _ _ _ _ _ (fun h => h0 ((cond_iff t).mp h)) (iblk m c 0 t) (iblk m c 1 t) (iblk m c 2 t) (iblk m c 3 t) (iblk m c 4 t) _ _ (combV m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6 m c t)
    iexact H6

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- At the end the scratch and the register are given back. -/
theorem inv_end (c : Dev nD) : (dats m 0 c).Φ (Fin.last cfg0.N) ⊢ (Pipeline.ΦA spec0 c : sProp 𝕄) := by
  rw [show (dats m 0 c).Φ (Fin.last cfg0.N) = inv m c cfg0.N from rfl, start_eq]
  unfold inv
  rw [if_neg (by rw [show cfg0.N = 8 from N_0]; omega)]
  iintro ⟨HS0, Hg⟩
  isplitl [HS0]
  · iexists _; iexact HS0
  iexact Hg

set_option backward.isDefEq.respectTransparency.types false in
set_option maxHeartbeats 800000 in
/-- The launch: every execution ends, with the pipeline's arrays and the other buffers at the named contents and every
    semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => .rfl) (hout := inv_end m)

/-- The frame: every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-! ## The results -/

/-- The last grid point. -/
def lastPt : Fin cfg0.N := ⟨7, by rw [show cfg0.N = 8 from N_0]; omega⟩

/-- The first output's array ends holding the accumulator of the last point. -/
theorem arr5 (c : Dev nD) : (dats m 0 c).arrAt 5 cfg0.N = accAt m c 7 lastPt.isLt := by
  refine (dats m 0 c).arrAt_eq_of_after_last 5 lastPt (by decide +kernel) _ fun j => ?_
  blk_simp
  rw [after_5]; rfl

/-- The second output's array ends holding the loss. -/
theorem arr6 (c : Dev nD) : (dats m 0 c).arrAt 6 cfg0.N = auxV m c := by
  refine (dats m 0 c).arrAt_eq_of_after_last 6 lastPt (by decide +kernel) _ fun j => ?_
  blk_simp
  rw [after_6]

/-- The program's first result is the accumulator, reshaped. -/
theorem result0 (c : Dev nD) : Pipeline.afterTail₀ cfgs (dats m) 0 (V0 m) [hostOps1] c main_v0_0
    = shapeCast S64x1x1024 (accAt m c 7 lastPt.isLt) shapeCasts_S64x1024_S64x1x1024 := by
  have e := Pipeline.withArrays_arr spec0 (by decide) c (V0 m c) (fun w => (dats m 0 c).arrAt w cfg0.N) 5
  rw [arr5] at e
  refine Eq.trans ?_ (congrArg (fun x => shapeCast _ x _) e)
  unfold Pipeline.afterTail₀
  generalize Pipeline.withArrays spec0 c (V0 m c) (fun w => (dats m 0 c).arrAt w cfg0.N) = W
  simp only [hostOps1, StableHlo.TRef.reshape, StableHlo.TRef.toBuf, StableHlo.TRef.ofBuf, cast_eq, List.flatten_cons, List.flatten_nil, List.append_nil]
  after_results_simp

/-- The program's second result is the loss, reshaped. -/
theorem result1 (c : Dev nD) : Pipeline.afterTail₀ cfgs (dats m) 0 (V0 m) [hostOps1] c main_v0_1
    = shapeCast S_ (auxV m c) shapeCasts_S1x1_S_ := by
  have e := Pipeline.withArrays_arr spec0 (by decide) c (V0 m c) (fun w => (dats m 0 c).arrAt w cfg0.N) 6
  rw [arr6] at e
  refine Eq.trans ?_ (congrArg (fun x => shapeCast _ x _) e)
  unfold Pipeline.afterTail₀
  generalize Pipeline.withArrays spec0 c (V0 m c) (fun w => (dats m 0 c).arrAt w cfg0.N) = W
  simp only [hostOps1, StableHlo.TRef.reshape, StableHlo.TRef.toBuf, StableHlo.TRef.ofBuf, cast_eq, List.flatten_cons, List.flatten_nil, List.append_nil]
  after_results_simp

/-- The run with its results: every execution ends with the two results at their values and the arguments as launched. -/
theorem run_values : θ_run defs (onTc (τ := τ) (main (F := F))) ⟨m, fun _ => 0, ρ⟩ (fun r => ∀ c : Dev nD,
      r.2.mem ((c.tc : Thread nD τ).loc main_v0_0) = shapeCast S64x1x1024 (accAt m c 7 lastPt.isLt) shapeCasts_S64x1024_S64x1x1024
      ∧ r.2.mem ((c.tc : Thread nD τ).loc main_v0_1) = shapeCast S_ (auxV m c) shapeCasts_S1x1_S_) :=
  (θ_run defs _ _).mono (fun _ h c =>
    ⟨((h.1 c).2 main_v0_0 (Pipeline.mem_restRefs_of main_v0_0 (by decide) (by decide))).trans (result0 m c),
     ((h.1 c).2 main_v0_1 (Pipeline.mem_restRefs_of main_v0_1 (by decide) (by decide))).trans (result1 m c)⟩) (run_main m ρ)

end Cert.KernelIdeal.Hand

end
-- ==== Proof.Row.lean ====
/- The routing of one token, on extended reals: the scores over the eight experts, the two greatest as repeated maximum
  and as a sorted prefix, the routing weights, and the bounds that let a weight move through a sum. -/
module

public import Idealize.ShloMosaic.PureOps.Ideal.Laws
public import Idealize.ShloMosaic.Lib.SortPrefix
public import Idealize.ShloMosaic.Lib.ValueIdx
public import Mathlib.Data.EReal.Inv

@[expose] public section

set_option maxRecDepth 16384

noncomputable section

namespace Cert.Moe

open Idealize.ShloMosaic

/-- The greatest of eight values. -/
def top (f : Fin 8 → EReal) : EReal := Finset.univ.fold max ⊥ f

/-- The softmax of eight logits, each logit less their maximum. -/
def score (l : Fin 8 → EReal) (e : Fin 8) : EReal :=
  Ideal.div (Ideal.exp (l e - top l)) (∑ j, Ideal.exp (l j - top l))

/-- `p` is the first position of the greatest value. -/
def IsFirst (f : Fin 8 → EReal) (p : Fin 8) : Prop := (∀ e, f e ≤ f p) ∧ ∀ e, e < p → f e < f p

/-- `q` is the first position of the greatest value off `p`. -/
def IsSecond (f : Fin 8 → EReal) (p q : Fin 8) : Prop :=
  q ≠ p ∧ ∀ e, e ≠ p → f e ≤ f q ∧ (e < q → f e < f q)

/-- The least position at which the greatest value stands, as a word: every other position counts as eight. -/
def pickWord (f : Fin 8 → EReal) : BitVec 32 :=
  Finset.univ.fold IntOp.minsi 2147483647#32 fun e : Fin 8 => if f e = top f then BitVec.ofNat 32 e.val else 8#32

/-- The values with the first greatest struck out. -/
def mask (f : Fin 8 → EReal) (e : Fin 8) : EReal := if BitVec.ofNat 32 e.val = pickWord f then ⊥ else f e

/-- Expert `e` is picked in the first round or in the second. -/
def sel (f : Fin 8 → EReal) (e : Fin 8) : Prop := BitVec.ofNat 32 e.val = pickWord f ∨ BitVec.ofNat 32 e.val = pickWord (mask f)

/-- Being picked is decided by comparing words. -/
instance (f : Fin 8 → EReal) (e : Fin 8) : Decidable (sel f e) := by unfold sel; infer_instance

/-- The routing weight by repeated maximum: a picked expert's score over the sum of the two maxima. -/
def weight (f : Fin 8 → EReal) (e : Fin 8) : EReal := Ideal.div (if sel f e then f e else 0) (top f + top (mask f))

/-- Where the `k`-th greatest value stands, equal values in the order of their positions. -/
def place (f : Fin 8 → EReal) (k : Fin 8) : Fin 8 :=
  sortedFrom (fun a b => FloatOps.cmpfTotal (F := Ideal) (φ := .f32) .gt (f a) (f b) == 1#1) k

/-- Every value is at most the greatest. -/
theorem le_top (f : Fin 8 → EReal) (e : Fin 8) : f e ≤ top f :=
  Finset.le_fold_max _ |>.mpr (.inr ⟨e, Finset.mem_univ e, le_rfl⟩)

/-- A value that bounds the others is the greatest. -/
theorem top_eq {f : Fin 8 → EReal} {p : Fin 8} (h : ∀ e, f e ≤ f p) : top f = f p :=
  le_antisymm (Finset.fold_max_le _ |>.mpr ⟨bot_le, fun e _ => h e⟩) (le_top f p)

/-- Among finitely many values satisfying a condition one is greatest, and the first such is determined by the order. -/
theorem exists_first_among (f : Fin 8 → EReal) (P : Fin 8 → Prop) (hP : ∃ e, P e) :
    ∃ q, P q ∧ ∀ e, P e → f e ≤ f q ∧ (e < q → f e < f q) := by
  classical
  obtain ⟨q, hq, hmax⟩ := Finset.exists_max_image (Finset.univ.filter P) (fun e => toLex (f e, OrderDual.toDual e))
    (by obtain ⟨e, he⟩ := hP; exact ⟨e, by simpa using he⟩)
  refine ⟨q, by simpa using hq, fun e he => ?_⟩
  have h := hmax e (by simpa using he)
  rw [Prod.Lex.toLex_le_toLex] at h
  rcases h with h | ⟨h, h'⟩
  · exact ⟨h.le, fun _ => h⟩
  · refine ⟨h.le, fun hlt => absurd h' ?_⟩
    simpa using hlt

/-- Every row has a first greatest position. -/
theorem exists_first (f : Fin 8 → EReal) : ∃ p, IsFirst f p := by
  obtain ⟨p, -, h⟩ := exists_first_among f (fun _ => True) ⟨0, trivial⟩
  exact ⟨p, fun e => (h e trivial).1, fun e => (h e trivial).2⟩

/-- And a first greatest position off it. -/
theorem exists_second (f : Fin 8 → EReal) (p : Fin 8) : ∃ q, IsSecond f p q :=
  exists_first_among f (· ≠ p) (exists_ne p)

/-- The least of the marked positions, computed on words with eight for the unmarked. -/
theorem pick_marked : ∀ c : Fin 8 → Bool, ∀ p : Fin 8, c p = true → (∀ e, e < p → c e = false) →
    (Finset.univ.fold IntOp.minsi 2147483647#32 fun e : Fin 8 => if c e = true then BitVec.ofNat 32 e.val else 8#32)
      = BitVec.ofNat 32 p.val := by
  decide +kernel

/-- The word picked is the first greatest position. -/
theorem pickWord_eq {f : Fin 8 → EReal} {p : Fin 8} (h : IsFirst f p) : pickWord f = BitVec.ofNat 32 p.val := by
  have ht := top_eq h.1
  have := pick_marked (fun e => decide (f e = top f)) p (by simp [ht]) (fun e he => by simpa [ht] using (h.2 e he).ne)
  simpa [pickWord] using this

/-- Two positions are equal when their words are. -/
theorem word_inj {a b : Fin 8} : BitVec.ofNat 32 a.val = BitVec.ofNat 32 b.val ↔ a = b := by
  revert a b; decide

/-- Striking out the first greatest. -/
theorem mask_eq {f : Fin 8 → EReal} {p : Fin 8} (h : IsFirst f p) (e : Fin 8) : mask f e = if e = p then ⊥ else f e := by
  unfold mask; rw [pickWord_eq h]; simp only [word_inj]

/-- The second greatest is the greatest once the first is struck out. -/
theorem top_mask {f : Fin 8 → EReal} {p q : Fin 8} (h : IsFirst f p) (hq : IsSecond f p q) : top (mask f) = f q := by
  have e : mask f q = f q := by rw [mask_eq h, if_neg hq.1]
  rw [← e]
  refine top_eq fun a => ?_
  rw [e, mask_eq h]
  split
  · exact bot_le
  · rename_i ha; exact (hq.2 a ha).1

/-- If the second greatest is above the value struck in, the second round picks it. -/
theorem isFirst_mask {f : Fin 8 → EReal} {p q : Fin 8} (h : IsFirst f p) (hq : IsSecond f p q) (hb : ⊥ < f q) :
    IsFirst (mask f) q := by
  have e : mask f q = f q := by rw [mask_eq h, if_neg hq.1]
  refine ⟨fun a => ?_, fun a ha => ?_⟩ <;> rw [e, mask_eq h] <;> split
  · exact bot_le
  · rename_i hp; exact (hq.2 a hp).1
  · exact hb
  · rename_i hp; exact (hq.2 a hp).2 ha

/-- So the two rounds pick the two greatest. -/
theorem sel_iff {f : Fin 8 → EReal} {p q : Fin 8} (h : IsFirst f p) (hq : IsSecond f p q) (hb : ⊥ < f q) (e : Fin 8) :
    sel f e ↔ e = p ∨ e = q := by
  unfold sel
  rw [pickWord_eq h, pickWord_eq (isFirst_mask h hq hb), word_inj, word_inj]

/-- A stable sort looks at a pair only with the later position against the earlier. -/
theorem stableSort_of_later {n : ℕ} (R B : Fin n → Fin n → Bool) (h : ∀ a b, a < b → R b a = B b a) :
    ∀ l : List (Fin n), l.Pairwise (· < ·) → stableSort R l = stableSort B l
  | [], _ => rfl
  | a :: l, hl => by
    rw [List.pairwise_cons] at hl
    show insertBefore R a (stableSort R l) = insertBefore B a (stableSort B l)
    rw [stableSort_of_later R B h l hl.2]
    exact insertBefore_congr R B a _ fun b hb => h a b (hl.1 b ((perm_stableSort B l).mem_iff.mp hb))

/-- The sorted positions begin with the first greatest and the second. -/
theorem place_eq {f : Fin 8 → EReal} {p q : Fin 8} (h : IsFirst f p) (hq : IsSecond f p q) : place f 0 = p ∧ place f 1 = q := by
  let lt : EReal → EReal → Bool := fun a b => decide (b < a)
  let B : Fin 8 → Fin 8 → Bool := fun k k' => lt (f k) (f k') || (decide (f k = f k') && decide (k < k'))
  have hB : StrictTotalBefore B := StrictTotalBefore.of_key_then_position lt f (by simp [lt])
    (by intro a b c; simp only [lt, decide_eq_true_eq]; exact fun x y => y.trans x)
    (by intro a b; simp only [lt, decide_eq_true_eq]; rcases lt_trichotomy a b with x | x | x <;> simp [x])
  have hs : ∀ k, place f k = sortedFrom B k := by
    intro k
    have : sortPositions 8 (fun a b => FloatOps.cmpfTotal (F := Ideal) (φ := .f32) .gt (f a) (f b) == 1#1) = sortPositions 8 B := by
      refine stableSort_of_later _ _ (fun a b hab => ?_) _ (List.pairwise_lt_finRange 8)
      show (Ideal.cmp .ogt (f b) (f a) == 1#1) = B b a
      have : ¬ b < a := not_lt.mpr hab.le
      by_cases hf : f a < f b <;> simp [Ideal.cmp, B, lt, hf, this]
    exact List.get_of_eq this _
  have hn : ∀ a b, B a b = false ↔ f a ≤ f b ∧ (f a = f b → b ≤ a) := by
    intro a b
    simp [B, lt]
  have key := hB.sortedFrom_eq_of_prefix (k := 2) (by decide) ![p, q]
    (by
      intro i j hij
      fin_cases i <;> fin_cases j <;> first | rfl | exact absurd hij.symm hq.1 | exact absurd hij hq.1)
    (by
      intro i j hij
      have hi : i = 0 := by omega
      have hj : j = 1 := by omega
      subst hi hj
      refine (hn _ _).mpr ⟨h.1 q, fun e => ?_⟩
      by_contra hlt
      exact (h.2 q (not_le.mp hlt)).ne e)
    (by
      intro i a ha
      have hap : a ≠ p := fun e => ha 0 e.symm
      have haq : a ≠ q := fun e => ha 1 e.symm
      fin_cases i
      · refine (hn _ _).mpr ⟨h.1 a, fun e => ?_⟩
        by_contra hlt
        exact (h.2 a (not_le.mp hlt)).ne e
      · refine (hn _ _).mpr ⟨(hq.2 a hap).1, fun e => ?_⟩
        by_contra hlt
        exact ((hq.2 a hap).2 (not_le.mp hlt)).ne e)
  exact ⟨(hs 0).trans (key 0), (hs 1).trans (key 1)⟩

/-- An extended real is an infinity or a real. -/
theorem bot_real_top (x : EReal) : x = ⊥ ∨ (∃ r : ℝ, x = (r : EReal)) ∨ x = ⊤ := by
  induction x <;> simp

/-- A sum of reals among the extended reals. -/
theorem coe_sum {n : ℕ} (x : Fin n → ℝ) : ∑ j, (x j : EReal) = ((∑ j, x j : ℝ) : EReal) := by
  induction n with
  | zero => simp
  | succ n ih => rw [Fin.sum_univ_succ, Fin.sum_univ_succ, ih fun j => x j.succ, EReal.coe_add]

/-- Eight logits either all score the undefined quotient (their maximum is infinite), or score non-negative reals of which
    one is positive. -/
theorem score_cases (l : Fin 8 → EReal) : (∀ e, score l e = ⊥) ∨
    ∃ s : Fin 8 → ℝ, (∀ e, score l e = (s e : EReal)) ∧ (∀ e, 0 ≤ s e) ∧ ∃ e, 0 < s e := by
  obtain ⟨p, hp⟩ := exists_first l
  have ht : top l = l p := top_eq hp.1
  have degenerate (h : ∀ e, l e - l p = ⊥) : ∀ e, score l e = ⊥ := by
    intro e
    unfold score
    rw [ht]
    simp [h, Ideal.div]
  rcases bot_real_top (l p) with hr | ⟨r, hr⟩ | hr
  · exact .inl (degenerate fun e => by
      have h := hp.1 e
      rw [hr] at h ⊢
      rw [le_bot_iff.mp h, EReal.bot_sub])
  · right
    have hx : ∀ e, ∃ x : ℝ, Ideal.exp (l e - l p) = (x : EReal) ∧ 0 ≤ x := by
      intro e
      have hle := hp.1 e
      rcases bot_real_top (l e) with he | ⟨y, he⟩ | he
      · exact ⟨0, by rw [he, hr]; rfl, le_rfl⟩
      · exact ⟨Real.exp (y - r), by rw [he, hr]; rfl, (Real.exp_pos _).le⟩
      · rw [he, hr] at hle
        exact absurd hle (not_le.mpr (EReal.coe_lt_top r))
    choose x hx hx0 using hx
    have hxp : x p = 1 := by
      have h := hx p
      rw [hr, ← EReal.coe_sub, sub_self, Ideal.exp_coe, Real.exp_zero] at h
      exact_mod_cast h.symm
    have hpos : 0 < ∑ j, x j := Finset.sum_pos' (fun j _ => hx0 j) ⟨p, Finset.mem_univ p, by rw [hxp]; exact one_pos⟩
    refine ⟨fun e => x e * (1 / ∑ j, x j), fun e => ?_, fun e => mul_nonneg (hx0 e) (by positivity), p, ?_⟩
    · have hsum : ∑ j, Ideal.exp (l j - l p) = ((∑ j, x j : ℝ) : EReal) := by
        simp only [hx, coe_sum]
      unfold score
      rw [ht, hsum, hx, Ideal.div_coe hpos.ne', EReal.coe_mul]
    · show 0 < x p * _
      rw [hxp, one_mul]; positivity
  · exact .inl (degenerate fun e => by rw [hr]; exact EReal.sub_top _)

/-- Whether the `k`-th greatest stands at `e`, as a number. -/
def hot (f : Fin 8 → EReal) (k e : Fin 8) : EReal := if place f k = e then 1 else 0

/-- The sum of the two greatest by their sorted positions. -/
def pairSum (f : Fin 8 → EReal) : EReal := f (place f 0) + f (place f 1)

/-- The routing weight by the sorted prefix: each of the two greatest over their sum, placed at its own expert. -/
def sortedWeight (f : Fin 8 → EReal) (e : Fin 8) : EReal :=
  hot f 0 e * Ideal.div (f (place f 0)) (pairSum f) + hot f 1 e * Ideal.div (f (place f 1)) (pairSum f)

/-- Whether `e` is picked in one of the two rounds, as a number. -/
def picked (f : Fin 8 → EReal) (e : Fin 8) : EReal := if sel f e then 1 else 0

/-- On a row of undefined scores both weights are zero: a weight is then a quotient by an infinite sum. -/
theorem weights_bot {f : Fin 8 → EReal} (h : ∀ e, f e = ⊥) (e : Fin 8) : weight f e = 0 ∧ sortedWeight f e = 0 := by
  constructor
  · have ht : top f + top (mask f) = ⊥ := by rw [top_eq (p := 0) fun e => by rw [h, h], h, EReal.bot_add]
    unfold weight
    rw [ht]
    simp [Ideal.div]
  · have hs : pairSum f = ⊥ := by unfold pairSum; rw [h, EReal.bot_add]
    unfold sortedWeight
    rw [hs]
    simp [Ideal.div]

/-- On a row of real scores, one of them positive, the picked experts are the two greatest and the sum of the two
    maxima is a positive real. -/
theorem real_row {f : Fin 8 → EReal} {s : Fin 8 → ℝ} (hs : ∀ e, f e = (s e : EReal)) (h0 : ∀ e, 0 ≤ s e) (hp : ∃ e, 0 < s e) :
    ∃ p q, q ≠ p ∧ place f 0 = p ∧ place f 1 = q ∧ (∀ e, sel f e ↔ e = p ∨ e = q)
      ∧ top f + top (mask f) = ((s p + s q : ℝ) : EReal) ∧ 0 < s p + s q := by
  obtain ⟨p, h⟩ := exists_first f
  obtain ⟨q, hq⟩ := exists_second f p
  obtain ⟨e, he⟩ := hp
  have hle := h.1 e
  rw [hs, hs, EReal.coe_le_coe_iff] at hle
  obtain ⟨p0, q1⟩ := place_eq h hq
  refine ⟨p, q, hq.1, p0, q1, sel_iff h hq (by rw [hs]; exact EReal.bot_lt_coe _), ?_, add_pos_of_pos_of_nonneg (he.trans_le hle) (h0 q)⟩
  rw [top_eq h.1, top_mask h hq, hs, hs, EReal.coe_add]

/-- The two spellings of the routing weights agree on scores. -/
theorem weight_eq_sortedWeight (l : Fin 8 → EReal) (e : Fin 8) : weight (score l) e = sortedWeight (score l) e := by
  rcases score_cases l with h | ⟨s, hs, h0, hp⟩
  · rw [(weights_bot h e).1, (weights_bot h e).2]
  · obtain ⟨p, q, hne, hp0, hq1, hsel, htop, hpos⟩ := real_row hs h0 hp
    unfold weight sortedWeight pairSum hot
    rw [htop, hp0, hq1, hs p, hs q, ← EReal.coe_add, Ideal.div_coe hpos.ne', Ideal.div_coe hpos.ne', Ideal.div_coe hpos.ne']
    by_cases h1 : e = p
    · subst h1; simp [hsel, hs, hne]
    · by_cases h2 : e = q
      · subst h2; simp [hsel, hs, Ne.symm hne]
      · simp [hsel, h1, h2, Ne.symm h1, Ne.symm h2]

/-- A routing weight is a non-negative real. -/
theorem weight_bounds (l : Fin 8 → EReal) (e : Fin 8) : 0 ≤ weight (score l) e ∧ weight (score l) e ≠ ⊤ := by
  rcases score_cases l with h | ⟨s, hs, h0, hp⟩
  · rw [(weights_bot h e).1]; exact ⟨le_rfl, EReal.zero_ne_top⟩
  · obtain ⟨p, q, hne, hp0, hq1, hsel, htop, hpos⟩ := real_row hs h0 hp
    unfold weight
    rw [htop, Ideal.div_coe hpos.ne']
    have hc : (0 : ℝ) ≤ 1 / (s p + s q) := by positivity
    split
    · rw [hs, ← EReal.coe_mul]
      exact ⟨EReal.coe_nonneg.mpr (mul_nonneg (h0 e) hc), EReal.coe_ne_top _⟩
    · rw [zero_mul]; exact ⟨le_rfl, EReal.zero_ne_top⟩

/-- A non-negative real factor moves through a finite sum. -/
theorem mul_sum_of_bounds {c : EReal} (h0 : 0 ≤ c) (ht : c ≠ ⊤) {n : ℕ} (x : Fin n → EReal) : c * ∑ j, x j = ∑ j, c * x j := by
  induction n with
  | zero => simp
  | succ n ih => rw [Fin.sum_univ_succ, Fin.sum_univ_succ, EReal.left_distrib_of_nonneg_of_ne_top h0 ht, ih fun j => x j.succ]

/-- A finite sum with an undefined term is undefined. -/
theorem sum_bot {n : ℕ} (x : Fin n → EReal) (a : Fin n) (h : x a = ⊥) : ∑ j, x j = ⊥ := by
  rw [← Finset.add_sum_erase Finset.univ x (Finset.mem_univ a), h, EReal.bot_add]

/-- The number of picked experts by rounds and by sorted positions is the same on a row of real scores. -/
theorem picked_eq {f : Fin 8 → EReal} {s : Fin 8 → ℝ} (hs : ∀ e, f e = (s e : EReal)) (h0 : ∀ e, 0 ≤ s e) (hp : ∃ e, 0 < s e)
    (e : Fin 8) : picked f e = hot f 0 e + hot f 1 e := by
  obtain ⟨p, q, hne, hp0, hq1, hsel, -⟩ := real_row hs h0 hp
  unfold picked hot
  rw [hp0, hq1]
  by_cases h1 : e = p
  · subst h1; simp [hsel, hne]
  · by_cases h2 : e = q
    · subst h2; simp [hsel, Ne.symm hne]
    · simp [hsel, h1, h2, Ne.symm h1, Ne.symm h2]

/-- The mean over `m` tokens of the scores times the mean of the counts, summed over the experts. -/
def balance (m : ℝ) (S C : Fin 64 → Fin 8 → EReal) : EReal :=
  ∑ e, Ideal.div (∑ n, S n e) (m : EReal) * Ideal.div (∑ n, C n e) (m : EReal)

/-- If some token's scores are undefined, and its count at the first expert positive, the balance is undefined, whatever
    the other non-negative counts. -/
theorem balance_bot {m : ℝ} (hm : 0 < m) (S C : Fin 64 → Fin 8 → EReal) (a : Fin 64) (hS : S a 0 = ⊥)
    (hC : ∀ n, 0 ≤ C n 0) (ha : 0 < C a 0) : balance m S C = ⊥ := by
  refine sum_bot _ 0 ?_
  have hc : (0 : ℝ) < 1 / m := by positivity
  have hpos : 0 < ∑ n, C n 0 := lt_of_lt_of_le ha (Finset.single_le_sum (fun n _ => hC n) (Finset.mem_univ a))
  show Ideal.div (∑ n, S n 0) (m : EReal) * Ideal.div (∑ n, C n 0) (m : EReal) = ⊥
  rw [sum_bot (fun n => S n 0) a hS, Ideal.div_coe hm.ne', Ideal.div_coe hm.ne', EReal.bot_mul_coe_of_pos hc]
  exact EReal.bot_mul_of_pos (EReal.mul_pos hpos (EReal.coe_pos.mpr hc))

/-- The two spellings of the load balance agree: where every row is real the counts do, and otherwise both are
    undefined. -/
theorem balance_eq {m : ℝ} (hm : 0 < m) (L : Fin 64 → Fin 8 → EReal) :
    balance m (fun n => score (L n)) (fun n => picked (score (L n)))
      = balance m (fun n => score (L n)) (fun n e => hot (score (L n)) 0 e + hot (score (L n)) 1 e) := by
  by_cases hbad : ∃ a, ∀ e, score (L a) e = ⊥
  · obtain ⟨a, ha⟩ := hbad
    have h : IsFirst (score (L a)) 0 := ⟨fun e => (ha e).trans_le bot_le, fun e he => absurd he (by simp)⟩
    have hq : IsSecond (score (L a)) 0 1 :=
      ⟨by decide, fun e he => ⟨(ha e).trans_le bot_le, fun h' => absurd he (by omega)⟩⟩
    have hsel : sel (score (L a)) 0 := .inl (pickWord_eq h).symm
    have h1 : picked (score (L a)) 0 = 1 := if_pos hsel
    have h2 : hot (score (L a)) 0 0 = 1 := if_pos (place_eq h hq).1
    have hp0 : ∀ n, 0 ≤ picked (score (L n)) 0 := fun n => by unfold picked; split <;> simp
    have hh0 : ∀ n k, 0 ≤ hot (score (L n)) k 0 := fun n k => by unfold hot; split <;> simp
    rw [balance_bot hm _ _ a (ha 0) hp0 (by simp only [h1]; exact one_pos),
      balance_bot hm (fun n => score (L n)) (fun n e => hot (score (L n)) 0 e + hot (score (L n)) 1 e) a (ha 0)
        (fun n => add_nonneg (hh0 n 0) (hh0 n 1))
        (by simp only [h2]; exact lt_of_lt_of_le one_pos (le_add_of_nonneg_right (hh0 a 1)))]
  · have hgood : ∀ n e, picked (score (L n)) e = hot (score (L n)) 0 e + hot (score (L n)) 1 e := by
      intro n e
      rcases score_cases (L n) with h | ⟨s, hs, h0, hp⟩
      · exact absurd ⟨n, h⟩ hbad
      · exact picked_eq hs h0 hp e
    simp only [balance, hgood]

/-- The pattern of minus infinity is the least extended real. -/
theorem ofBits_negInf : Ideal.ofBits .f32 0xFF800000#32 = ⊥ := by
  simp [Ideal.ofBits, Ideal.ieee]

/-- The pattern of sixty-four. -/
theorem ofBits_64 : Ideal.ofBits .f32 0x42800000#32 = ((64 : ℝ) : EReal) := by
  simp [Ideal.ofBits, Ideal.ieee, -EReal.coe_mul]; norm_num

/-- The gated hidden values of one expert on one token: silu of the gate projection times the up projection. -/
def hidden (x : Fin 1024 → EReal) (g u : Fin 2048 → Fin 1024 → EReal) (f : Fin 2048) : EReal :=
  (∑ k, x k * g f k) * Ideal.logistic (∑ k, x k * g f k) * ∑ k, x k * u f k

/-- The logits of token `n`: its features against each expert's router weights. -/
def logits (x : Fin 64 → Fin 1024 → EReal) (w : Fin 8 → Fin 1024 → EReal) (n : Fin 64) (e : Fin 8) : EReal :=
  ∑ k, x n k * w e k

/-- Expert `e`'s contribution to feature `j` of token `n`: its routing weight times the down projection of its hidden
    values. -/
def part (x : Fin 64 → Fin 1024 → EReal) (w : Fin 8 → Fin 1024 → EReal) (g u : Fin 8 → Fin 2048 → Fin 1024 → EReal)
    (d : Fin 8 → Fin 1024 → Fin 2048 → EReal) (n : Fin 64) (j : Fin 1024) (e : Fin 8) : EReal :=
  sortedWeight (score (logits x w n)) e * ∑ f, d e j f * hidden (x n) (g e) (u e) f

/-- A routing weight multiplied into the hidden values comes out of the down projection. -/
theorem weighted_sum (l : Fin 8 → EReal) (e : Fin 8) (h d : Fin 2048 → EReal) :
    ∑ f, h f * weight (score l) e * d f = sortedWeight (score l) e * ∑ f, d f * h f := by
  rw [← weight_eq_sortedWeight, mul_sum_of_bounds (weight_bounds l e).1 (weight_bounds l e).2]
  exact Finset.sum_congr rfl fun f _ => by rw [mul_comm (h f), mul_assoc, mul_comm (h f)]

end Cert.Moe

end
-- ==== Proof.Router.lean ====
/- The router of the kernel read at an index: the logits of a token, its scores, the two rounds that pick experts, the
  routing weights and the load-balancing loss. -/
module

public import proofs.«01_k».proof.Proof.Body
public import proofs.«01_k».proof.Proof.Row
public import Idealize.ShloMosaic.Lib.Pointwise

@[expose] public section

set_option maxRecDepth 16384

noncomputable section

namespace Cert.KernelIdeal.Hand

open Cert.KernelIdeal Cert.KernelIdeal.Gen Cert.Moe
open Idealize.ShloMosaic Idealize.ShloMosaic.TcCoe Idealize.SL.Sem

/-- The logits of token `n`: its features against each expert's router weights. -/
def logit (x : FVec Ideal S64x1024 .f32) (w : FVec Ideal S8x1024 .f32) (n : Fin 64) (e : Fin 8) : EReal :=
  ∑ k : Fin 1024, x (ix2 n k) * w (ix2 e k)

/-- The scores the kernel computes are the softmax of the logits. -/
theorem pay2_apply (x : FVec Ideal S64x1024 .f32) (w : FVec Ideal S8x1024 .f32) (n : Fin 64) (e : Fin 8) :
    k0_pay2 (F := Ideal) (k0_pay9 x) w (ix2 n e) = score (logit x w n) e := by
  pointwise [k0_pay2, k0_pay9, ofBits_negInf]
  rfl

/-- The first maximum. -/
theorem pay3_apply (x : FVec Ideal S64x1024 .f32) (w : FVec Ideal S8x1024 .f32) (n : Fin 64) :
    k0_pay3 (F := Ideal) (k0_pay9 x) w (ix2 n 0) = top (score (logit x w n)) := by
  pointwise [k0_pay3, ofBits_negInf, pay2_apply]
  rfl

/-- A comparison of words for equality is the bit of their equality. -/
theorem cmpi_eq_bit (a b : BitVec 32) : IntOp.cmpi CmpIPredicate.eq a b = BitVec.ofBool (a = b) := by
  unfold IntOp.cmpi
  congr 1

/-- The first round marks the first greatest score. -/
theorem pay4_apply (x : FVec Ideal S64x1024 .f32) (w : FVec Ideal S8x1024 .f32) (n : Fin 64) (e : Fin 8) :
    k0_pay4 (F := Ideal) (k0_pay9 x) w (ix2 n e)
      = BitVec.ofBool (BitVec.ofNat 32 e.val = pickWord (score (logit x w n))) := by
  pointwise [k0_pay4, pay3_apply, pay2_apply, cmpi_eq_bit]
  rfl

/-- A choice by the bit of a decided proposition is the choice by the proposition. -/
theorem select_bit {α : Type} (P : Prop) [Decidable P] (a b : α) :
    Scalar.select (BitVec.ofBool (decide P)) a b = if P then a else b := by
  by_cases h : P <;> simp [h, Scalar.select]

/-- The scores with the first greatest struck out. -/
theorem pay5_apply (x : FVec Ideal S64x1024 .f32) (w : FVec Ideal S8x1024 .f32) (n : Fin 64) (e : Fin 8) :
    k0_pay5 (F := Ideal) (k0_pay9 x) w (ix2 n e) = mask (score (logit x w n)) e := by
  pointwise [k0_pay5, pay4_apply, pay2_apply, ofBits_negInf, select_bit]
  rfl

/-- The second round's maximum. -/
theorem pay6_apply (x : FVec Ideal S64x1024 .f32) (w : FVec Ideal S8x1024 .f32) (n : Fin 64) :
    k0_pay6 (F := Ideal) (k0_pay9 x) w (ix2 n 0) = top (mask (score (logit x w n))) := by
  pointwise [k0_pay6, ofBits_negInf, pay5_apply]
  rfl

/-- The mark of the experts picked in either round. -/
theorem pay7_apply (x : FVec Ideal S64x1024 .f32) (w : FVec Ideal S8x1024 .f32) (n : Fin 64) (e : Fin 8) :
    k0_pay7 (F := Ideal) (k0_pay9 x) w (ix2 n e) = BitVec.ofBool (sel (score (logit x w n)) e) := by
  have h : ∀ (P Q : Prop) [Decidable P] [Decidable Q], IntOp.ori (BitVec.ofBool P) (BitVec.ofBool Q) = BitVec.ofBool (P ∨ Q) := by
    intro P Q _ _
    by_cases hP : P <;> by_cases hQ : Q <;> simp [hP, hQ, IntOp.ori]
  pointwise [k0_pay7, pay6_apply, pay5_apply, pay4_apply, cmpi_eq_bit]
  rw [h]
  exact congrArg BitVec.ofBool (decide_eq_decide.mpr Iff.rfl)

/-- The routing weights. -/
theorem comb_apply (x : FVec Ideal S64x1024 .f32) (w : FVec Ideal S8x1024 .f32) (n : Fin 64) (e : Fin 8) :
    comb (F := Ideal) x w (ix2 n e) = weight (score (logit x w n)) e := by
  pointwise [comb, k0_pay8, pay7_apply, pay6_apply, pay3_apply, pay2_apply, select_bit]
  rfl

/-- The load-balancing loss. -/
theorem aux_apply (x : FVec Ideal S64x1024 .f32) (w : FVec Ideal S8x1024 .f32) :
    aux (F := Ideal) x w (ix2 0 0)
      = Ideal.ofBits .f32 0x41000000#32 * balance 64 (fun n => score (logit x w n)) (fun n => picked (score (logit x w n))) := by
  have h : ∀ (P : Prop) [Decidable P],
      (FloatOps.sitofp (F := Ideal) .f32 ((BitVec.ofBool (decide P)).setWidth 32) : EReal) = if P then 1 else 0 := by
    intro P _
    show (((((BitVec.ofBool (decide P)).setWidth 32).toInt : ℤ) : ℝ) : EReal) = _
    by_cases hP : P <;> simp [hP]
  pointwise [aux, k0_pay10, pay7_apply, pay2_apply, ofBits_64, h]
  simp only [Finset.univ_unique, Finset.sum_singleton]
  rfl

/-- One expert's contribution, added to what the accumulator held. -/
theorem step_apply (i : grid0.Coords) (e : Fin 8) (he : e.val = (i 0).val) (x : FVec Ideal S64x1024 .f32)
    (g u : FVec Ideal S1x2048x1024 .f32) (cb : FVec Ideal S64x8 .f32) (d : FVec Ideal S1x1024x2048 .f32)
    (acc : FVec Ideal S64x1024 .f32) (n : Fin 64) (j : Fin 1024) :
    step (F := Ideal) i x g u cb d acc (ix2 n j) = acc (ix2 n j) +
      ∑ f : Fin 2048, hidden (fun k => x (ix2 n k)) (fun f k => g (ix3 0 f k)) (fun f k => u (ix3 0 f k)) f
        * cb (ix2 n e) * d (ix3 0 j f) := by
  have h : (∑ a : Fin 8, if BitVec.ofNat 32 a.val = BitVec.ofNat 32 e.val then cb (ix2 n a) else 0) = cb (ix2 n e) := by
    simp only [word_inj, Finset.sum_ite_eq', Finset.mem_univ, if_true]
  pointwise [step, k0_pay1, k0_pay12, k0_pay9, cmpi_eq_bit, select_bit, ← he, h]
  rfl

end Cert.KernelIdeal.Hand

end
-- ==== Proof.Values.lean ====
/- What the kernel's two outputs hold, as functions of the argument arrays: the blocks each point works on are the
  tokens and one expert's weights, and the accumulator is the sum of the experts' contributions. -/
module

public import proofs.«01_k».proof.Proof.Launch
public import proofs.«01_k».proof.Proof.Router
public import Idealize.ShloMosaic.Lib.Pipeline.ValueKit

@[expose] public section

set_option maxRecDepth 16384

noncomputable section

namespace Cert.KernelIdeal.Hand

open Cert.KernelIdeal Cert.KernelIdeal.Gen Cert.Moe
open Idealize.ShloMosaic Idealize.ShloMosaic.TcCoe Idealize.SL.Sem Idealize.ShloMosaic.Tactic

variable (m : (ℓ : Loc nD τ sig) → Buf (Elt Ideal) ℓ)

/-- The block indices of the input windows: the tokens and the router's weights stay, the experts' weights follow the
    grid. -/
theorem block_index : ∀ t : Fin cfg0.N, win0_0.index t = ![0, 0] ∧ win0_1.index t = ![0, 0] ∧ win0_2.index t = ![t.val, 0, 0]
    ∧ win0_3.index t = ![t.val, 0, 0] ∧ win0_4.index t = ![t.val, 0, 0] ∧ (grid0.coords t 0).val = t.val := by
  decide +kernel

/-- The tokens, of the launched memory. -/
abbrev tokens (c : Dev nD) (n : Fin 64) (k : Fin 1024) : EReal := m ((c.tc : Thread nD τ).loc main_arg0) (ix3 n 0 k)
/-- The router's weights, of the launched memory. -/
abbrev router (c : Dev nD) (e : Fin 8) (k : Fin 1024) : EReal := m ((c.tc : Thread nD τ).loc main_arg1) (ix2 e k)
/-- The experts' gate weights, of the launched memory. -/
abbrev gate (c : Dev nD) (e : Fin 8) (f : Fin 2048) (k : Fin 1024) : EReal := m ((c.tc : Thread nD τ).loc main_arg2) (ix3 e f k)
/-- The experts' up weights, of the launched memory. -/
abbrev up (c : Dev nD) (e : Fin 8) (f : Fin 2048) (k : Fin 1024) : EReal := m ((c.tc : Thread nD τ).loc main_arg3) (ix3 e f k)
/-- The experts' down weights, of the launched memory. -/
abbrev down (c : Dev nD) (e : Fin 8) (j : Fin 1024) (f : Fin 2048) : EReal := m ((c.tc : Thread nD τ).loc main_arg4) (ix3 e j f)

/-- The tokens' block. -/
theorem block_x (c : Dev nD) (t : Fin cfg0.N) (n : Fin 64) (k : Fin 1024) :
    (iblk m c 0 t : FVec Ideal S64x1024 .f32) (ix2 n k) = tokens m c n k := by
  have e : V m c main_call0_v0
      = shapeCast S64x1024 (m ((c.tc : Thread nD τ).loc main_arg0)) shapeCasts_S64x1x1024_S64x1024 := by
    entry_read; rfl
  have h : (iblk m c 0 t : FVec Ideal S64x1024 .f32) (ix2 n k)
      = (V m c main_call0_v0 : FVec Ideal S64x1024 .f32) (ix2 n k) := by
    blk_ext! [iblk, block_index t]
  rw [h, e]
  pointwise

/-- The router's block. -/
theorem block_w (c : Dev nD) (t : Fin cfg0.N) (e : Fin 8) (k : Fin 1024) :
    (iblk m c 1 t : FVec Ideal S8x1024 .f32) (ix2 e k) = router m c e k := by
  blk_ext! [iblk, V, block_index t]

/-- The gate block of expert `e`. -/
theorem block_g (c : Dev nD) (t : Fin cfg0.N) (e : Fin 8) (he : e.val = t.val) (f : Fin 2048) (k : Fin 1024) :
    (iblk m c 2 t : FVec Ideal S1x2048x1024 .f32) (ix3 0 f k) = gate m c e f k := by
  blk_ext! [iblk, V, block_index t, he]

/-- The up block of expert `e`. -/
theorem block_u (c : Dev nD) (t : Fin cfg0.N) (e : Fin 8) (he : e.val = t.val) (f : Fin 2048) (k : Fin 1024) :
    (iblk m c 3 t : FVec Ideal S1x2048x1024 .f32) (ix3 0 f k) = up m c e f k := by
  blk_ext! [iblk, V, block_index t, he]

/-- The down block of expert `e`. -/
theorem block_d (c : Dev nD) (t : Fin cfg0.N) (e : Fin 8) (he : e.val = t.val) (j : Fin 1024) (f : Fin 2048) :
    (iblk m c 4 t : FVec Ideal S1x1024x2048 .f32) (ix3 0 j f) = down m c e j f := by
  blk_ext! [iblk, V, block_index t, he]

/-- The logits of the blocks are those of the arrays. -/
theorem logit_block (c : Dev nD) (t : Fin cfg0.N) (n : Fin 64) : logit (iblk m c 0 t) (iblk m c 1 t) n = logits (tokens m c) (router m c) n := by
  funext e
  exact Finset.sum_congr rfl fun k _ => Ideal.mul_congr (block_x m c t n k) (block_w m c t e k)

/-- One point adds its expert's contribution. -/
theorem stepAt_apply (c : Dev nD) (t : Fin cfg0.N) (e : Fin 8) (he : e.val = t.val) (acc : FVec Ideal S64x1024 .f32)
    (n : Fin 64) (j : Fin 1024) : stepAt m c t acc (ix2 n j) = acc (ix2 n j) + part (tokens m c) (router m c) (gate m c) (up m c) (down m c) n j e := by
  unfold stepAt part combV
  rw [step_apply _ e (he.trans (block_index t).2.2.2.2.2.symm), ← weighted_sum]
  refine congrArg (acc (ix2 n j) + ·) (Finset.sum_congr rfl fun f _ => ?_)
  simp only [comb_apply, logit_block, block_x, block_g m c t e he, block_u m c t e he, block_d m c t e he]

/-- The accumulator after point `a` is the sum of the contributions of the experts up to it. -/
theorem accAt_apply (c : Dev nD) (n : Fin 64) (j : Fin 1024) : ∀ (a : ℕ) (h : a < cfg0.N) (h8 : a + 1 ≤ 8),
    (accAt m c a h : FVec Ideal S64x1024 .f32) (ix2 n j) = ∑ t : Fin (a + 1), part (tokens m c) (router m c) (gate m c) (up m c) (down m c) n j (t.castLE h8)
  | 0, h, h8 => by
    unfold accAt
    rw [stepAt_apply m c ⟨0, h⟩ 0 rfl, Fin.sum_univ_one]
    pointwise [k0_pay11]
    rfl
  | a + 1, h, h8 => by
    unfold accAt
    rw [stepAt_apply m c ⟨a + 1, h⟩ ⟨a + 1, h8⟩ rfl, accAt_apply c n j a (Nat.lt_of_succ_lt h) (Nat.le_of_succ_le h8),
      Fin.sum_univ_castSucc (n := a + 1)]
    rfl

/-- The first result: every token's routed sum of the experts' outputs. -/
theorem out_apply (c : Dev nD) (n : Fin 64) (j : Fin 1024) :
    (shapeCast S64x1x1024 (accAt m c 7 lastPt.isLt : FVec Ideal S64x1024 .f32) shapeCasts_S64x1024_S64x1x1024) (ix3 n 0 j)
      = ∑ e : Fin 8, part (tokens m c) (router m c) (gate m c) (up m c) (down m c) n j e := by
  pointwise
  rw [accAt_apply m c n j 7 lastPt.isLt le_rfl]
  rfl

/-- The second result: the load-balancing loss. -/
theorem loss_apply (c : Dev nD) (i : S_.Idx) :
    (shapeCast S_ (auxV m c : FVec Ideal S1x1 .f32) shapeCasts_S1x1_S_) i
      = Ideal.ofBits .f32 0x41000000#32 * balance 64 (fun n => score (logits (tokens m c) (router m c) n))
          (fun n e => hot (score (logits (tokens m c) (router m c) n)) 0 e + hot (score (logits (tokens m c) (router m c) n)) 1 e) := by
  pointwise
  unfold auxV
  rw [aux_apply]
  simp only [logit_block]
  rw [balance_eq (by norm_num)]

end Cert.KernelIdeal.Hand

end
-- ==== Proof.Reference.lean ====
/- The reference read at an index: the scores, the two greatest of them by a stable sort, the routing weights, the
  experts' outputs and the load-balancing loss. -/
module

public import proofs.«01_k».proof.Proof.Gen.ReferenceIdeal.Read
public import proofs.«01_k».proof.Proof.Row
public import Idealize.ShloMosaic.Lib.Pointwise

@[expose] public section

set_option maxRecDepth 16384

noncomputable section

namespace Cert.ReferenceIdeal.Hand

open Cert.ReferenceIdeal Cert.ReferenceIdeal.Gen Cert.ReferenceIdeal.Read Cert.Moe
open Idealize.ShloMosaic Idealize.ShloMosaic.TcCoe Idealize.SL.Sem Idealize.ShloMosaic.StableHlo

/-- The logits of token `n`: its features against each expert's router weights. -/
def logit (x : FVec Ideal S64x1x1024 .f32) (w : FVec Ideal S8x1024 .f32) (n : Fin 64) (e : Fin 8) : EReal :=
  ∑ k : Fin 1024, x (ix3 n 0 k) * w (ix2 e k)

/-- The first matrix product holds the logits. -/
theorem v2_apply (x : FVec Ideal S64x1x1024 .f32) (w : FVec Ideal S8x1024 .f32) (n : Fin 64) (e : Fin 8) :
    val_main_v2 (F := Ideal) x w (ix2 n e) = logit x w n e := by
  pointwise [val_main_v2, val_main_v0, val_main_v1]
  rfl

/-- The scores are the softmax of the logits. -/
theorem v13_apply (x : FVec Ideal S64x1x1024 .f32) (w : FVec Ideal S8x1024 .f32) (n : Fin 64) (e : Fin 8) :
    val_main_v13 (F := Ideal) x w (ix2 n e) = score (logit x w n) e := by
  pointwise [val_main_v13, val_main_v12, val_main_v11, val_main_v10, val_main_v9, val_main_v8, val_main_v7, val_main_v6,
    val_main_v5, val_main_v4, val_main_v3, v2_apply, val_main_cst, val_main_cst_0, val_main_cst_1, ofBits_negInf]
  simp only [max_eq_right bot_le]
  rfl

/-- A position of a row with its column replaced is that row at the new column. -/
theorem along_row (n : Fin 64) (k a : Fin 8) : (ix2 n k : S64x8.Idx).along 1 a = ix2 n a := by
  funext b; fin_cases b <;> rfl

/-- The `k`-th of the two greatest, as a position among the eight. -/
def rank (k : Fin 2) : Fin 8 := k.castLE (by decide)

/-- The experts the sort places first. -/
theorem indices_apply (x : FVec Ideal S64x1x1024 .f32) (w : FVec Ideal S8x1024 .f32) (n : Fin 64) (k : Fin 2) :
    val_main_indices (F := Ideal) x w (ix2 n k) = BitVec.ofNat 32 (place (score (logit x w n)) (rank k)).val := by
  pointwise [val_main_indices, Host.topK, Host.sort2]
  simp only [along_row, v13_apply]
  rfl

/-- The scores the sort places first. -/
theorem values_apply (x : FVec Ideal S64x1x1024 .f32) (w : FVec Ideal S8x1024 .f32) (n : Fin 64) (k : Fin 2) :
    val_main_values (F := Ideal) x w (ix2 n k) = score (logit x w n) (place (score (logit x w n)) (rank k)) := by
  pointwise [val_main_values, Host.topK, Host.sort2]
  simp only [along_row, v13_apply]
  rfl

/-- The one-hot rows of the picked experts. -/
theorem v18_apply (x : FVec Ideal S64x1x1024 .f32) (w : FVec Ideal S8x1024 .f32) (n : Fin 64) (k : Fin 2) (e : Fin 8) :
    val_main_v18 (F := Ideal) x w (ix3 n k e) = hot (score (logit x w n)) (rank k) e := by
  have h : ∀ a b : Fin 8, (FloatOps.uitofp (F := Ideal) .f32 (IntOp.cmpi CmpIPredicate.eq (BitVec.ofNat 32 a.val) (BitVec.ofNat 32 b.val)) : EReal)
      = if a = b then 1 else 0 := by
    intro a b
    show (((IntOp.cmpi CmpIPredicate.eq (BitVec.ofNat 32 a.val) (BitVec.ofNat 32 b.val)).toNat : ℝ) : EReal) = _
    by_cases hab : a = b
    · subst hab; simp [IntOp.cmpi]
    · have := mt word_inj.mp hab
      simp [IntOp.cmpi, hab, this]
  pointwise [val_main_v18, val_main_call0_v4, val_main_call0_v3, val_main_call0_v2, val_main_call0_v1, val_main_call0_v0, indices_apply]
  exact h _ _

/-- The routing weights. -/
theorem v22_apply (x : FVec Ideal S64x1x1024 .f32) (w : FVec Ideal S8x1024 .f32) (n : Fin 64) (e : Fin 8) :
    val_main_v22 (F := Ideal) x w (ix2 n e) = sortedWeight (score (logit x w n)) e := by
  pointwise [val_main_v22, val_main_v21, val_main_v20, val_main_v19, val_main_v17, val_main_v16, val_main_v15, val_main_v14, v18_apply, values_apply, val_main_cst_2, val_main_cst_3, Fin.sum_univ_two]
  rfl

/-- The load-balancing loss. -/
theorem v39_apply (x : FVec Ideal S64x1x1024 .f32) (w : FVec Ideal S8x1024 .f32) (i : S_.Idx) :
    val_main_v39 (F := Ideal) x w i = Ideal.ofBits .f32 0x41000000#32
      * balance 64 (fun n => score (logit x w n)) (fun n e => hot (score (logit x w n)) 0 e + hot (score (logit x w n)) 1 e) := by
  pointwise [val_main_v39, val_main_v38, val_main_v37, val_main_v36, val_main_v35, val_main_v34, val_main_v33, val_main_v32, val_main_v31, val_main_v30, v13_apply, v18_apply, Fin.sum_univ_two,
    val_main_cst_4, val_main_cst_5, val_main_cst_6, val_main_cst_7, val_main_cst_8, val_main_cst_9, val_main_cst_10, ofBits_64]
  rfl

/-- The experts' outputs combined. -/
theorem v40_apply (x : FVec Ideal S64x1x1024 .f32) (w : FVec Ideal S8x1024 .f32) (g u : FVec Ideal S8x2048x1024 .f32)
    (d : FVec Ideal S8x1024x2048 .f32) (n : Fin 64) (j : Fin 1024) :
    val_main_v40 (F := Ideal) x w g u d (ix3 n 0 j)
      = ∑ e : Fin 8, sortedWeight (score (logit x w n)) e * ∑ f : Fin 2048,
          d (ix3 e j f) * hidden (fun k => x (ix3 n 0 k)) (fun f k => g (ix3 e f k)) (fun f k => u (ix3 e f k)) f := by
  pointwise [val_main_v40, val_main_v29, val_main_v28, val_main_v27, val_main_v26, val_main_v25, val_main_v24, val_main_v23, val_main_v0, val_main_call1_v5,val_main_call1_v4,val_main_call1_v3,val_main_call1_v2,val_main_call1_v1,val_main_call1_v0,val_main_call1_cst,val_main_call1_cst_0, v22_apply]
  rfl

end Cert.ReferenceIdeal.Hand

end
-- ==== Proof.lean ====
/- The five claims about the kernel: it, its idealization and the reference leave their arguments as launched; the
  idealization keeps the kernel's program; and over the extended reals kernel and reference end with the same two
  results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Values
public import proofs.«01_k».proof.Proof.Reference
public import Idealize.ShloMosaic.Lib.Tactic
public import Idealize.ShloMosaic.Adequacy
public import Idealize.ShloMosaic.Init

@[expose] public section

noncomputable section

namespace Cert.Proof

open Idealize.ShloMosaic Idealize.SL.Sem Cert.Kernel

/-- The kernel and its idealization define the same functions: only the reading of the floats differs. -/
theorem same_defs {F : FTy → Type} [FloatOps F] : @Cert.Kernel.defs F _ Cert.Kernel.Gen.facts = @Cert.KernelIdeal.defs F _ Cert.KernelIdeal.Gen.facts := by
  sl_kernel_rfl

/-- The kernel and its idealization have the same entry program. -/
theorem same_main {F : FTy → Type} [FloatOps F] : @Cert.Kernel.main F Cert.Kernel.Gen.facts = @Cert.KernelIdeal.main F Cert.KernelIdeal.Gen.facts := by
  sl_kernel_rfl

/-- The kernel on words leaves its arguments as launched and every counter at zero: its program is the idealization's,
    whose frame is proved for every reading of the floats. -/
theorem frame_kernel : Cert.quiescent_Kernel := by
  intro m ρ _
  have h := Cert.KernelIdeal.Hand.frame (F := Bits) m ρ
  rw [← same_defs, ← same_main] at h
  exact h

/-- The reference leaves its arguments as launched, and declares no counter that could be left set. -/
theorem frame_reference : Cert.quiescent_ReferenceIdeal := by
  intro m ρ _
  exact (θ_run Cert.ReferenceIdeal.defs _ _).mono
    (fun r h => ⟨fun c => (h c).2.2, sem_eq_zero_of_no_sems (by decide) r.2⟩)
    (Cert.ReferenceIdeal.Value.run (F := Ideal) m ρ)

/-- The reference's results are the kernel's when the arguments agree. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Value.res_main_v40 m' c
        = shapeCast Cert.KernelIdeal.S64x1x1024 (Cert.KernelIdeal.Hand.accAt m c 7 Cert.KernelIdeal.Hand.lastPt.isLt)
            Cert.KernelIdeal.Gen.facts.shapeCasts_S64x1024_S64x1x1024
      ∧ Cert.ReferenceIdeal.Value.res_main_v39 m' c
        = shapeCast Cert.KernelIdeal.S_ (Cert.KernelIdeal.Hand.auxV m c) Cert.KernelIdeal.Gen.facts.shapeCasts_S1x1_S_ := by
  rw [Cert.ReferenceIdeal.Read.val_main_v40_eq, Cert.ReferenceIdeal.Read.val_main_v39_eq, h0, h1, h2, h3, h4]
  constructor
  · funext i
    idx_vars i
    rw [show i1 = 0 from Subsingleton.elim _ _]
    exact (Cert.ReferenceIdeal.Hand.v40_apply _ _ _ _ _ i0 i2).trans (Cert.KernelIdeal.Hand.out_apply m c i0 i2).symm
  · funext i
    exact (Cert.ReferenceIdeal.Hand.v39_apply _ _ i).trans (Cert.KernelIdeal.Hand.loss_apply m c i).symm

/-- From launches that agree on the arguments, kernel and reference end with the same two results. -/
theorem same_results : Cert.algebraic_KernelIdeal_ReferenceIdeal := by
  intro m g m' g' _ hagree
  refine ⟨_, _, (θ_run _ _ _).mono (fun r h c => ⟨(h.1 c).1, (h.1 c).2, h.2.1 c⟩)
    (θ_run_and (Cert.KernelIdeal.Hand.run_values m g) (Cert.KernelIdeal.Hand.frame m g)), ?_⟩
  refine (θ_run Cert.ReferenceIdeal.defs _ _).mono (fun r h c => ?_) (Cert.ReferenceIdeal.Value.run (F := Ideal) m' g')
  obtain ⟨h0, h1, h2, h3, h4⟩ := hagree c
  have e := results_eq m m' c h0 h1 h2 h3 h4
  exact ⟨(h c).1.trans e.1, (h c).2.1.trans e.2, (h c).2.2⟩

/-- Every claim of this certificate. -/
theorem claim : Cert.Claim := ⟨Cert.Kernel.Gen.facts, Cert.KernelIdeal.Gen.facts, Cert.ReferenceIdeal.Gen.facts,
  frame_kernel,
  fun m ρ _ => Cert.KernelIdeal.Hand.frame m ρ,
  frame_reference,
  trivial,
  same_results⟩

end Cert.Proof

end
